-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x512x9600 : Shape := ⟨3, ![2, 512, 9600]⟩
abbrev S4800x12288 : Shape := ⟨2, ![4800, 12288]⟩
abbrev S150x12288 : Shape := ⟨2, ![150, 12288]⟩
abbrev S9600x16 : Shape := ⟨2, ![9600, 16]⟩
abbrev S16x12288 : Shape := ⟨2, ![16, 12288]⟩
abbrev S1024x9600 : Shape := ⟨2, ![1024, 9600]⟩
abbrev S1024x12288 : Shape := ⟨2, ![1024, 12288]⟩
abbrev S4800x512 : Shape := ⟨2, ![4800, 512]⟩
abbrev S150x512 : Shape := ⟨2, ![150, 512]⟩
abbrev S16x512 : Shape := ⟨2, ![16, 512]⟩
abbrev S1024x512 : Shape := ⟨2, ![1024, 512]⟩
abbrev S9600x512 : Shape := ⟨2, ![9600, 512]⟩
abbrev S1024x16 : Shape := ⟨2, ![1024, 16]⟩
abbrev S64x512 : Shape := ⟨2, ![64, 512]⟩
abbrev S1x512 : Shape := ⟨2, ![1, 512]⟩
abbrev S2x512x12288 : Shape := ⟨3, ![2, 512, 12288]⟩

abbrev nBuf : Space → Nat
  | .hbm => 8
  | .vmem => 12
  | .smem => 0
  | _ => 0

abbrev bufTy : (tb : Table) → Fin (tcTables nBuf tb) → BufTy
  | .hbm, ⟨0, _⟩ => ⟨S2x512x9600, .bf16⟩
  | .hbm, ⟨1, _⟩ => ⟨S4800x12288, .i8⟩
  | .hbm, ⟨2, _⟩ => ⟨S150x12288, .f32⟩
  | .hbm, ⟨3, _⟩ => ⟨S9600x16, .bf16⟩
  | .hbm, ⟨4, _⟩ => ⟨S16x12288, .bf16⟩
  | .hbm, ⟨5, _⟩ => ⟨S1024x9600, .bf16⟩
  | .hbm, ⟨6, _⟩ => ⟨S1024x12288, .bf16⟩
  | .hbm, ⟨7, _⟩ => ⟨S2x512x12288, .bf16⟩
  | .local _ .vmem, ⟨0, _⟩ => ⟨S1024x9600, .bf16⟩
  | .local _ .vmem, ⟨1, _⟩ => ⟨S4800x512, .i8⟩
  | .local _ .vmem, ⟨2, _⟩ => ⟨S4800x512, .i8⟩
  | .local _ .vmem, ⟨3, _⟩ => ⟨S150x512, .f32⟩
  | .local _ .vmem, ⟨4, _⟩ => ⟨S150x512, .f32⟩
  | .local _ .vmem, ⟨5, _⟩ => ⟨S9600x16, .bf16⟩
  | .local _ .vmem, ⟨6, _⟩ => ⟨S16x512, .bf16⟩
  | .local _ .vmem, ⟨7, _⟩ => ⟨S16x512, .bf16⟩
  | .local _ .vmem, ⟨8, _⟩ => ⟨S1024x512, .bf16⟩
  | .local _ .vmem, ⟨9, _⟩ => ⟨S1024x512, .bf16⟩
  | .local _ .vmem, ⟨10, _⟩ => ⟨S9600x512, .bf16⟩
  | .local _ .vmem, ⟨11, _⟩ => ⟨S1024x16, .bf16⟩
  | _, _ => ⟨S2x512x9600, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![24], ![false]⟩

@[reducible] def k0_t1_loop : Scf.Loop 32 :=
  let c0_i32_1 : BitVec 32 := 0#32
  let c75_i32 : BitVec 32 := 75#32
  let v3 : BitVec 32 := Scalar.addi c0_i32_1 c75_i32
  let c1_i32 : BitVec 32 := 1#32
  ⟨c0_i32_1, v3, c1_i32⟩
def k0_mult1 (k0_t1 : Fin k0_t1_loop.trips) : BitVec 32 :=
  let c0_i32_15 : BitVec 32 := 0#32
  let c0_i32_1 : BitVec 32 := 0#32
  let c1_i32 : BitVec 32 := 1#32
  let arg9 : BitVec 32 := Scf.iv c0_i32_1 c1_i32 k0_t1
  let c1_i32_14 : BitVec 32 := 1#32
  let v16 : BitVec 32 := Scalar.muli arg9 c1_i32_14
  let v17 : BitVec 32 := Scalar.addi c0_i32_15 v16
  let c64_i32 : BitVec 32 := 64#32
  let v18 : BitVec 32 := Scalar.muli v17 c64_i32
  v18
def k0_off1 (k0_t1 : Fin k0_t1_loop.trips) : Fin 2 → Nat :=
  let c0_i32_15 : BitVec 32 := 0#32
  let c0_i32_1 : BitVec 32 := 0#32
  let c1_i32 : BitVec 32 := 1#32
  let arg9 : BitVec 32 := Scf.iv c0_i32_1 c1_i32 k0_t1
  let c1_i32_14 : BitVec 32 := 1#32
  let v16 : BitVec 32 := Scalar.muli arg9 c1_i32_14
  let v17 : BitVec 32 := Scalar.addi c0_i32_15 v16
  let c64_i32 : BitVec 32 := 64#32
  let v18 : BitVec 32 := Scalar.muli v17 c64_i32
  let v19 : BitVec 32 := v18
  let v20 : Index := Scalar.indexCast v19
  let c0_16 : Index := 0#32
  ![v20.toNat, 0]
def k0_off2 (k0_t1 : Fin k0_t1_loop.trips) : Fin 2 → Nat :=
  let c0_i32_15 : BitVec 32 := 0#32
  let c0_i32_1 : BitVec 32 := 0#32
  let c1_i32 : BitVec 32 := 1#32
  let arg9 : BitVec 32 := Scf.iv c0_i32_1 c1_i32 k0_t1
  let c1_i32_14 : BitVec 32 := 1#32
  let v16 : BitVec 32 := Scalar.muli arg9 c1_i32_14
  let v17 : BitVec 32 := Scalar.addi c0_i32_15 v16
  let v23 : Index := Scalar.indexCast v17
  let c0_17 : Index := 0#32
  ![v23.toNat, 0]
def k0_off3 (k0_t1 : Fin k0_t1_loop.trips) : Fin 2 → Nat :=
  let c0_i32_15 : BitVec 32 := 0#32
  let c0_i32_1 : BitVec 32 := 0#32
  let c1_i32 : BitVec 32 := 1#32
  let arg9 : BitVec 32 := Scf.iv c0_i32_1 c1_i32 k0_t1
  let c1_i32_14 : BitVec 32 := 1#32
  let v16 : BitVec 32 := Scalar.muli arg9 c1_i32_14
  let v17 : BitVec 32 := Scalar.addi c0_i32_15 v16
  let c75_i32_18 : BitVec 32 := 75#32
  let v26 : BitVec 32 := Scalar.addi v17 c75_i32_18
  let v27 : Index := Scalar.indexCast v26
  let c0_19 : Index := 0#32
  ![v27.toNat, 0]
def k0_off4 (k0_t1 : Fin k0_t1_loop.trips) : Fin 2 → Nat :=
  let c0_i32_15 : BitVec 32 := 0#32
  let c0_i32_1 : BitVec 32 := 0#32
  let c1_i32 : BitVec 32 := 1#32
  let arg9 : BitVec 32 := Scf.iv c0_i32_1 c1_i32 k0_t1
  let c1_i32_14 : BitVec 32 := 1#32
  let v16 : BitVec 32 := Scalar.muli arg9 c1_i32_14
  let v17 : BitVec 32 := Scalar.addi c0_i32_15 v16
  let c64_i32 : BitVec 32 := 64#32
  let v18 : BitVec 32 := Scalar.muli v17 c64_i32
  let v19 : BitVec 32 := v18
  let v79 : Index := Scalar.indexCast v19
  let c0_39 : Index := 0#32
  ![v79.toNat, 0]
def k0_off5 (k0_t1 : Fin k0_t1_loop.trips) : Fin 2 → Nat :=
  let c0_i32_15 : BitVec 32 := 0#32
  let c0_i32_1 : BitVec 32 := 0#32
  let c1_i32 : BitVec 32 := 1#32
  let arg9 : BitVec 32 := Scf.iv c0_i32_1 c1_i32 k0_t1
  let c1_i32_14 : BitVec 32 := 1#32
  let v16 : BitVec 32 := Scalar.muli arg9 c1_i32_14
  let v17 : BitVec 32 := Scalar.addi c0_i32_15 v16
  let c64_i32 : BitVec 32 := 64#32
  let v18 : BitVec 32 := Scalar.muli v17 c64_i32
  let v19 : BitVec 32 := v18
  let c4800_i32 : BitVec 32 := 4800#32
  let v134 : BitVec 32 := Scalar.addi v19 c4800_i32
  let v135 : Index := Scalar.indexCast v134
  let c0_65 : Index := 0#32
  ![v135.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1024x9600 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4800x512 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S150x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S9600x16 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S16x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S2x512x9600 : Shape := ⟨3, ![2, 512, 9600]⟩
abbrev S4800x12288 : Shape := ⟨2, ![4800, 12288]⟩
abbrev S150x12288 : Shape := ⟨2, ![150, 12288]⟩
abbrev S9600x16 : Shape := ⟨2, ![9600, 16]⟩
abbrev S16x12288 : Shape := ⟨2, ![16, 12288]⟩
abbrev S_ : Shape := ⟨0, ![]⟩
abbrev S75x12288 : Shape := ⟨2, ![75, 12288]⟩
abbrev S75x64x12288 : Shape := ⟨3, ![75, 64, 12288]⟩
abbrev S75x1x12288 : Shape := ⟨3, ![75, 1, 12288]⟩
abbrev S2x512x4800 : Shape := ⟨3, ![2, 512, 4800]⟩
abbrev S2x512x12288 : Shape := ⟨3, ![2, 512, 12288]⟩
abbrev S2x512x16 : Shape := ⟨3, ![2, 512, 16]⟩

abbrev nBuf : Space → Nat
  | .hbm => 181
  | .vmem => 0
  | .smem => 0
  | _ => 0

abbrev hbmTy0_0 (i : Nat) : BufTy := match i % 128 with
  | 0 => ⟨S2x512x9600, .bf16⟩
  | 1 => ⟨S4800x12288, .i8⟩
  | 2 => ⟨S150x12288, .f32⟩
  | 3 => ⟨S9600x16, .bf16⟩
  | 4 => ⟨S16x12288, .bf16⟩
  | 5 => ⟨S4800x12288, .i32⟩
  | 6 => ⟨S_, .i32⟩
  | 7 => ⟨S4800x12288, .i32⟩
  | 8 => ⟨S4800x12288, .i32⟩
  | 9 => ⟨S_, .i32⟩
  | 10 => ⟨S4800x12288, .i32⟩
  | 11 => ⟨S4800x12288, .i32⟩
  | 12 => ⟨S75x12288, .f32⟩
  | 13 => ⟨S_, .i32⟩
  | 14 => ⟨S4800x12288, .i32⟩
  | 15 => ⟨S4800x12288, .i32⟩
  | 16 => ⟨S_, .i32⟩
  | 17 => ⟨S4800x12288, .i32⟩
  | 18 => ⟨S4800x12288, .i1⟩
  | 19 => ⟨S_, .bf16⟩
  | 20 => ⟨S_, .bf16⟩
  | 21 => ⟨S4800x12288, .bf16⟩
  | 22 => ⟨S4800x12288, .bf16⟩
  | 23 => ⟨S4800x12288, .bf16⟩
  | 24 => ⟨S_, .bf16⟩
  | 25 => ⟨S_, .bf16⟩
  | 26 => ⟨S4800x12288, .bf16⟩
  | 27 => ⟨S4800x12288, .bf16⟩
  | 28 => ⟨S4800x12288, .bf16⟩
  | 29 => ⟨S_, .bf16⟩
  | 30 => ⟨S_, .bf16⟩
  | 31 => ⟨S4800x12288, .bf16⟩
  | 32 => ⟨S4800x12288, .bf16⟩
  | 33 => ⟨S4800x12288, .bf16⟩
  | 34 => ⟨S_, .bf16⟩
  | 35 => ⟨S_, .bf16⟩
  | 36 => ⟨S4800x12288, .bf16⟩
  | 37 => ⟨S4800x12288, .bf16⟩
  | 38 => ⟨S4800x12288, .bf16⟩
  | 39 => ⟨S_, .bf16⟩
  | 40 => ⟨S_, .bf16⟩
  | 41 => ⟨S4800x12288, .bf16⟩
  | 42 => ⟨S4800x12288, .bf16⟩
  | 43 => ⟨S4800x12288, .bf16⟩
  | 44 => ⟨S_, .bf16⟩
  | 45 => ⟨S_, .bf16⟩
  | 46 => ⟨S4800x12288, .bf16⟩
  | 47 => ⟨S4800x12288, .bf16⟩
  | 48 => ⟨S4800x12288, .bf16⟩
  | 49 => ⟨S_, .bf16⟩
  | 50 => ⟨S_, .bf16⟩
  | 51 => ⟨S4800x12288, .bf16⟩
  | 52 => ⟨S4800x12288, .bf16⟩
  | 53 => ⟨S4800x12288, .bf16⟩
  | 54 => ⟨S_, .bf16⟩
  | 55 => ⟨S_, .bf16⟩
  | 56 => ⟨S4800x12288, .bf16⟩
  | 57 => ⟨S4800x12288, .bf16⟩
  | 58 => ⟨S4800x12288, .bf16⟩
  | 59 => ⟨S_, .i32⟩
  | 60 => ⟨S4800x12288, .i32⟩
  | 61 => ⟨S4800x12288, .i32⟩
  | 62 => ⟨S_, .i32⟩
  | 63 => ⟨S4800x12288, .i32⟩
  | 64 => ⟨S4800x12288, .i1⟩
  | 65 => ⟨S4800x12288, .bf16⟩
  | 66 => ⟨S4800x12288, .bf16⟩
  | 67 => ⟨S4800x12288, .bf16⟩
  | 68 => ⟨S4800x12288, .bf16⟩
  | 69 => ⟨S_, .i32⟩
  | 70 => ⟨S4800x12288, .i32⟩
  | 71 => ⟨S4800x12288, .i32⟩
  | 72 => ⟨S_, .i32⟩
  | 73 => ⟨S4800x12288, .i32⟩
  | 74 => ⟨S4800x12288, .i1⟩
  | 75 => ⟨S4800x12288, .bf16⟩
  | 76 => ⟨S4800x12288, .bf16⟩
  | 77 => ⟨S_, .i32⟩
  | 78 => ⟨S4800x12288, .i32⟩
  | 79 => ⟨S4800x12288, .i32⟩
  | 80 => ⟨S_, .i32⟩
  | 81 => ⟨S4800x12288, .i32⟩
  | 82 => ⟨S4800x12288, .i1⟩
  | 83 => ⟨S4800x12288, .bf16⟩
  | 84 => ⟨S75x64x12288, .bf16⟩
  | 85 => ⟨S75x12288, .bf16⟩
  | 86 => ⟨S75x1x12288, .bf16⟩
  | 87 => ⟨S75x64x12288, .bf16⟩
  | 88 => ⟨S75x64x12288, .bf16⟩
  | 89 => ⟨S4800x12288, .bf16⟩
  | 90 => ⟨S75x12288, .f32⟩
  | 91 => ⟨S_, .i32⟩
  | 92 => ⟨S4800x12288, .i32⟩
  | 93 => ⟨S4800x12288, .i32⟩
  | 94 => ⟨S_, .i32⟩
  | 95 => ⟨S4800x12288, .i32⟩
  | 96 => ⟨S4800x12288, .i1⟩
  | 97 => ⟨S_, .bf16⟩
  | 98 => ⟨S_, .bf16⟩
  | 99 => ⟨S4800x12288, .bf16⟩
  | 100 => ⟨S4800x12288, .bf16⟩
  | 101 => ⟨S4800x12288, .bf16⟩
  | 102 => ⟨S_, .bf16⟩
  | 103 => ⟨S_, .bf16⟩
  | 104 => ⟨S4800x12288, .bf16⟩
  | 105 => ⟨S4800x12288, .bf16⟩
  | 106 => ⟨S4800x12288, .bf16⟩
  | 107 => ⟨S_, .bf16⟩
  | 108 => ⟨S_, .bf16⟩
  | 109 => ⟨S4800x12288, .bf16⟩
  | 110 => ⟨S4800x12288, .bf16⟩
  | 111 => ⟨S4800x12288, .bf16⟩
  | 112 => ⟨S_, .bf16⟩
  | 113 => ⟨S_, .bf16⟩
  | 114 => ⟨S4800x12288, .bf16⟩
  | 115 => ⟨S4800x12288, .bf16⟩
  | 116 => ⟨S4800x12288, .bf16⟩
  | 117 => ⟨S_, .bf16⟩
  | 118 => ⟨S_, .bf16⟩
  | 119 => ⟨S4800x12288, .bf16⟩
  | 120 => ⟨S4800x12288, .bf16⟩
  | 121 => ⟨S4800x12288, .bf16⟩
  | 122 => ⟨S_, .bf16⟩
  | 123 => ⟨S_, .bf16⟩
  | 124 => ⟨S4800x12288, .bf16⟩
  | 125 => ⟨S4800x12288, .bf16⟩
  | 126 => ⟨S4800x12288, .bf16⟩
  | 127 => ⟨S_, .bf16⟩
  | _ => ⟨S2x512x9600, .bf16⟩

abbrev hbmTy0_1 (i : Nat) : BufTy := match i % 128 with
  | 0 => ⟨S_, .bf16⟩
  | 1 => ⟨S4800x12288, .bf16⟩
  | 2 => ⟨S4800x12288, .bf16⟩
  | 3 => ⟨S4800x12288, .bf16⟩
  | 4 => ⟨S_, .bf16⟩
  | 5 => ⟨S_, .bf16⟩
  | 6 => ⟨S4800x12288, .bf16⟩
  | 7 => ⟨S4800x12288, .bf16⟩
  | 8 => ⟨S4800x12288, .bf16⟩
  | 9 => ⟨S_, .i32⟩
  | 10 => ⟨S4800x12288, .i32⟩
  | 11 => ⟨S4800x12288, .i32⟩
  | 12 => ⟨S_, .i32⟩
  | 13 => ⟨S4800x12288, .i32⟩
  | 14 => ⟨S4800x12288, .i1⟩
  | 15 => ⟨S4800x12288, .bf16⟩
  | 16 => ⟨S4800x12288, .bf16⟩
  | 17 => ⟨S4800x12288, .bf16⟩
  | 18 => ⟨S4800x12288, .bf16⟩
  | 19 => ⟨S_, .i32⟩
  | 20 => ⟨S4800x12288, .i32⟩
  | 21 => ⟨S4800x12288, .i32⟩
  | 22 => ⟨S_, .i32⟩
  | 23 => ⟨S4800x12288, .i32⟩
  | 24 => ⟨S4800x12288, .i1⟩
  | 25 => ⟨S4800x12288, .bf16⟩
  | 26 => ⟨S4800x12288, .bf16⟩
  | 27 => ⟨S_, .i32⟩
  | 28 => ⟨S4800x12288, .i32⟩
  | 29 => ⟨S4800x12288, .i32⟩
  | 30 => ⟨S_, .i32⟩
  | 31 => ⟨S4800x12288, .i32⟩
  | 32 => ⟨S4800x12288, .i1⟩
  | 33 => ⟨S4800x12288, .bf16⟩
  | 34 => ⟨S75x64x12288, .bf16⟩
  | 35 => ⟨S75x12288, .bf16⟩
  | 36 => ⟨S75x1x12288, .bf16⟩
  | 37 => ⟨S75x64x12288, .bf16⟩
  | 38 => ⟨S75x64x12288, .bf16⟩
  | 39 => ⟨S4800x12288, .bf16⟩
  | 40 => ⟨S2x512x4800, .bf16⟩
  | 41 => ⟨S2x512x12288, .f32⟩
  | 42 => ⟨S2x512x4800, .bf16⟩
  | 43 => ⟨S2x512x12288, .f32⟩
  | 44 => ⟨S2x512x12288, .f32⟩
  | 45 => ⟨S2x512x16, .f32⟩
  | 46 => ⟨S2x512x16, .bf16⟩
  | 47 => ⟨S2x512x12288, .f32⟩
  | 48 => ⟨S_, .f32⟩
  | 49 => ⟨S2x512x12288, .f32⟩
  | 50 => ⟨S2x512x12288, .f32⟩
  | 51 => ⟨S2x512x12288, .f32⟩
  | 52 => ⟨S2x512x12288, .bf16⟩
  | _ => ⟨S2x512x9600, .bf16⟩

abbrev hbmTy (i : Nat) : BufTy := match i / 128 with
  | 0 => hbmTy0_0 i
  | 1 => hbmTy0_1 i
  | _ => ⟨S2x512x9600, .bf16⟩

abbrev bufTy : (tb : Table) → Fin (tcTables nBuf tb) → BufTy
  | .hbm, ⟨i, _⟩ => hbmTy i
  | _, _ => ⟨S2x512x9600, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_1 : Ref sig .tc := ⟨.hbm, 13, rfl⟩
abbrev main_v6 : Ref sig .tc := ⟨.hbm, 14, rfl⟩
abbrev main_v7 : Ref sig .tc := ⟨.hbm, 15, rfl⟩
abbrev main_c_2 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_cst_3 : Ref sig .tc := ⟨.hbm, 20, rfl⟩
abbrev main_call0_v0 : Ref sig .tc := ⟨.hbm, 21, rfl⟩
abbrev main_call0_v1 : Ref sig .tc := ⟨.hbm, 22, rfl⟩
abbrev main_v10 : Ref sig .tc := ⟨.hbm, 23, rfl⟩
abbrev main_cst_4 : Ref sig .tc := ⟨.hbm, 24, rfl⟩
abbrev main_cst_5 : Ref sig .tc := ⟨.hbm, 25, rfl⟩
abbrev main_call1_v0 : Ref sig .tc := ⟨.hbm, 26, rfl⟩
abbrev main_call1_v1 : Ref sig .tc := ⟨.hbm, 27, rfl⟩
abbrev main_v11 : Ref sig .tc := ⟨.hbm, 28, rfl⟩
abbrev main_cst_6 : Ref sig .tc := ⟨.hbm, 29, rfl⟩
abbrev main_cst_7 : Ref sig .tc := ⟨.hbm, 30, rfl⟩
abbrev main_call2_v0 : Ref sig .tc := ⟨.hbm, 31, rfl⟩
abbrev main_call2_v1 : Ref sig .tc := ⟨.hbm, 32, rfl⟩
abbrev main_v12 : Ref sig .tc := ⟨.hbm, 33, rfl⟩
abbrev main_cst_8 : Ref sig .tc := ⟨.hbm, 34, rfl⟩
abbrev main_cst_9 : Ref sig .tc := ⟨.hbm, 35, rfl⟩
abbrev main_call3_v0 : Ref sig .tc := ⟨.hbm, 36, rfl⟩
abbrev main_call3_v1 : Ref sig .tc := ⟨.hbm, 37, rfl⟩
abbrev main_v13 : Ref sig .tc := ⟨.hbm, 38, rfl⟩
abbrev main_cst_10 : Ref sig .tc := ⟨.hbm, 39, rfl⟩
abbrev main_cst_11 : Ref sig .tc := ⟨.hbm, 40, rfl⟩
abbrev main_call4_v0 : Ref sig .tc := ⟨.hbm, 41, rfl⟩
abbrev main_call4_v1 : Ref sig .tc := ⟨.hbm, 42, rfl⟩
abbrev main_v14 : Ref sig .tc := ⟨.hbm, 43, rfl⟩
abbrev main_cst_12 : Ref sig .tc := ⟨.hbm, 44, rfl⟩
abbrev main_cst_13 : Ref sig .tc := ⟨.hbm, 45, rfl⟩
abbrev main_call5_v0 : Ref sig .tc := ⟨.hbm, 46, rfl⟩
abbrev main_call5_v1 : Ref sig .tc := ⟨.hbm, 47, rfl⟩
abbrev main_v15 : Ref sig .tc := ⟨.hbm, 48, rfl⟩
abbrev main_cst_14 : Ref sig .tc := ⟨.hbm, 49, rfl⟩
abbrev main_cst_15 : Ref sig .tc := ⟨.hbm, 50, rfl⟩
abbrev main_call6_v0 : Ref sig .tc := ⟨.hbm, 51, rfl⟩
abbrev main_call6_v1 : Ref sig .tc := ⟨.hbm, 52, rfl⟩
abbrev main_v16 : Ref sig .tc := ⟨.hbm, 53, rfl⟩
abbrev main_cst_16 : Ref sig .tc := ⟨.hbm, 54, rfl⟩
abbrev main_cst_17 : Ref sig .tc := ⟨.hbm, 55, rfl⟩
abbrev main_call7_v0 : Ref sig .tc := ⟨.hbm, 56, rfl⟩
abbrev main_call7_v1 : Ref sig .tc := ⟨.hbm, 57, rfl⟩
abbrev main_v17 : Ref sig .tc := ⟨.hbm, 58, rfl⟩
abbrev main_c_18 : Ref sig .tc := ⟨.hbm, 59, rfl⟩
abbrev main_v18 : Ref sig .tc := ⟨.hbm, 60, rfl⟩
abbrev main_v19 : Ref sig .tc := ⟨.hbm, 61, rfl⟩
abbrev main_c_19 : Ref sig .tc := ⟨.hbm, 62, rfl⟩
abbrev main_v20 : Ref sig .tc := ⟨.hbm, 63, rfl⟩
abbrev main_v21 : Ref sig .tc := ⟨.hbm, 64, rfl⟩
abbrev main_v22 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_c_20 : Ref sig .tc := ⟨.hbm, 69, rfl⟩
abbrev main_v26 : Ref sig .tc := ⟨.hbm, 70, rfl⟩
abbrev main_v27 : Ref sig .tc := ⟨.hbm, 71, rfl⟩
abbrev main_c_21 : Ref sig .tc := ⟨.hbm, 72, rfl⟩
abbrev main_v28 : Ref sig .tc := ⟨.hbm, 73, rfl⟩
abbrev main_v29 : Ref sig .tc := ⟨.hbm, 74, rfl⟩
abbrev main_v30 : Ref sig .tc := ⟨.hbm, 75, rfl⟩
abbrev main_v31 : Ref sig .tc := ⟨.hbm, 76, rfl⟩
abbrev main_c_22 : Ref sig .tc := ⟨.hbm, 77, rfl⟩
abbrev main_v32 : Ref sig .tc := ⟨.hbm, 78, rfl⟩
abbrev main_v33 : Ref sig .tc := ⟨.hbm, 79, rfl⟩
abbrev main_c_23 : Ref sig .tc := ⟨.hbm, 80, rfl⟩
abbrev main_v34 : Ref sig .tc := ⟨.hbm, 81, rfl⟩
abbrev main_v35 : Ref sig .tc := ⟨.hbm, 82, rfl⟩
abbrev main_v36 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_v40 : Ref sig .tc := ⟨.hbm, 87, rfl⟩
abbrev main_v41 : Ref sig .tc := ⟨.hbm, 88, rfl⟩
abbrev main_v42 : Ref sig .tc := ⟨.hbm, 89, rfl⟩
abbrev main_v43 : Ref sig .tc := ⟨.hbm, 90, rfl⟩
abbrev main_c_24 : Ref sig .tc := ⟨.hbm, 91, rfl⟩
abbrev main_v44 : Ref sig .tc := ⟨.hbm, 92, rfl⟩
abbrev main_v45 : Ref sig .tc := ⟨.hbm, 93, rfl⟩
abbrev main_c_25 : Ref sig .tc := ⟨.hbm, 94, rfl⟩
abbrev main_v46 : Ref sig .tc := ⟨.hbm, 95, rfl⟩
abbrev main_v47 : Ref sig .tc := ⟨.hbm, 96, rfl⟩
abbrev main_cst_26 : Ref sig .tc := ⟨.hbm, 97, rfl⟩
abbrev main_cst_27 : Ref sig .tc := ⟨.hbm, 98, rfl⟩
abbrev main_call15_v0 : Ref sig .tc := ⟨.hbm, 99, rfl⟩
abbrev main_call15_v1 : Ref sig .tc := ⟨.hbm, 100, rfl⟩
abbrev main_v48 : Ref sig .tc := ⟨.hbm, 101, rfl⟩
abbrev main_cst_28 : Ref sig .tc := ⟨.hbm, 102, rfl⟩
abbrev main_cst_29 : Ref sig .tc := ⟨.hbm, 103, rfl⟩
abbrev main_call16_v0 : Ref sig .tc := ⟨.hbm, 104, rfl⟩
abbrev main_call16_v1 : Ref sig .tc := ⟨.hbm, 105, rfl⟩
abbrev main_v49 : Ref sig .tc := ⟨.hbm, 106, rfl⟩
abbrev main_cst_30 : Ref sig .tc := ⟨.hbm, 107, rfl⟩
abbrev main_cst_31 : Ref sig .tc := ⟨.hbm, 108, rfl⟩
abbrev main_call17_v0 : Ref sig .tc := ⟨.hbm, 109, rfl⟩
abbrev main_call17_v1 : Ref sig .tc := ⟨.hbm, 110, rfl⟩
abbrev main_v50 : Ref sig .tc := ⟨.hbm, 111, rfl⟩
abbrev main_cst_32 : Ref sig .tc := ⟨.hbm, 112, rfl⟩
abbrev main_cst_33 : Ref sig .tc := ⟨.hbm, 113, rfl⟩
abbrev main_call18_v0 : Ref sig .tc := ⟨.hbm, 114, rfl⟩
abbrev main_call18_v1 : Ref sig .tc := ⟨.hbm, 115, rfl⟩
abbrev main_v51 : Ref sig .tc := ⟨.hbm, 116, rfl⟩
abbrev main_cst_34 : Ref sig .tc := ⟨.hbm, 117, rfl⟩
abbrev main_cst_35 : Ref sig .tc := ⟨.hbm, 118, rfl⟩
abbrev main_call19_v0 : Ref sig .tc := ⟨.hbm, 119, rfl⟩
abbrev main_call19_v1 : Ref sig .tc := ⟨.hbm, 120, rfl⟩
abbrev main_v52 : Ref sig .tc := ⟨.hbm, 121, rfl⟩
abbrev main_cst_36 : Ref sig .tc := ⟨.hbm, 122, rfl⟩
abbrev main_cst_37 : Ref sig .tc := ⟨.hbm, 123, rfl⟩
abbrev main_call20_v0 : Ref sig .tc := ⟨.hbm, 124, rfl⟩
abbrev main_call20_v1 : Ref sig .tc := ⟨.hbm, 125, rfl⟩
abbrev main_v53 : Ref sig .tc := ⟨.hbm, 126, rfl⟩
abbrev main_cst_38 : Ref sig .tc := ⟨.hbm, 127, rfl⟩
abbrev main_cst_39 : Ref sig .tc := ⟨.hbm, 128, rfl⟩
abbrev main_call21_v0 : Ref sig .tc := ⟨.hbm, 129, rfl⟩
abbrev main_call21_v1 : Ref sig .tc := ⟨.hbm, 130, rfl⟩
abbrev main_v54 : Ref sig .tc := ⟨.hbm, 131, rfl⟩
abbrev main_cst_40 : Ref sig .tc := ⟨.hbm, 132, rfl⟩
abbrev main_cst_41 : Ref sig .tc := ⟨.hbm, 133, rfl⟩
abbrev main_call22_v0 : Ref sig .tc := ⟨.hbm, 134, rfl⟩
abbrev main_call22_v1 : Ref sig .tc := ⟨.hbm, 135, rfl⟩
abbrev main_v55 : Ref sig .tc := ⟨.hbm, 136, rfl⟩
abbrev main_c_42 : Ref sig .tc := ⟨.hbm, 137, rfl⟩
abbrev main_v56 : Ref sig .tc := ⟨.hbm, 138, rfl⟩
abbrev main_v57 : Ref sig .tc := ⟨.hbm, 139, rfl⟩
abbrev main_c_43 : Ref sig .tc := ⟨.hbm, 140, rfl⟩
abbrev main_v58 : Ref sig .tc := ⟨.hbm, 141, rfl⟩
abbrev main_v59 : Ref sig .tc := ⟨.hbm, 142, rfl⟩
abbrev main_v60 : Ref sig .tc := ⟨.hbm, 143, rfl⟩
abbrev main_v61 : Ref sig .tc := ⟨.hbm, 144, rfl⟩
abbrev main_v62 : Ref sig .tc := ⟨.hbm, 145, rfl⟩
abbrev main_v63 : Ref sig .tc := ⟨.hbm, 146, rfl⟩
abbrev main_c_44 : Ref sig .tc := ⟨.hbm, 147, rfl⟩
abbrev main_v64 : Ref sig .tc := ⟨.hbm, 148, rfl⟩
abbrev main_v65 : Ref sig .tc := ⟨.hbm, 149, rfl⟩
abbrev main_c_45 : Ref sig .tc := ⟨.hbm, 150, rfl⟩
abbrev main_v66 : Ref sig .tc := ⟨.hbm, 151, rfl⟩
abbrev main_v67 : Ref sig .tc := ⟨.hbm, 152, rfl⟩
abbrev main_v68 : Ref sig .tc := ⟨.hbm, 153, rfl⟩
abbrev main_v69 : Ref sig .tc := ⟨.hbm, 154, rfl⟩
abbrev main_c_46 : Ref sig .tc := ⟨.hbm, 155, rfl⟩
abbrev main_v70 : Ref sig .tc := ⟨.hbm, 156, rfl⟩
abbrev main_v71 : Ref sig .tc := ⟨.hbm, 157, rfl⟩
abbrev main_c_47 : Ref sig .tc := ⟨.hbm, 158, rfl⟩
abbrev main_v72 : Ref sig .tc := ⟨.hbm, 159, rfl⟩
abbrev main_v73 : Ref sig .tc := ⟨.hbm, 160, rfl⟩
abbrev main_v74 : Ref sig .tc := ⟨.hbm, 161, rfl⟩
abbrev main_v75 : Ref sig .tc := ⟨.hbm, 162, rfl⟩
abbrev main_v76 : Ref sig .tc := ⟨.hbm, 163, rfl⟩
abbrev main_v77 : Ref sig .tc := ⟨.hbm, 164, rfl⟩
abbrev main_v78 : Ref sig .tc := ⟨.hbm, 165, rfl⟩
abbrev main_v79 : Ref sig .tc := ⟨.hbm, 166, rfl⟩
abbrev main_v80 : Ref sig .tc := ⟨.hbm, 167, rfl⟩
abbrev main_v81 : Ref sig .tc := ⟨.hbm, 168, rfl⟩
abbrev main_v82 : Ref sig .tc := ⟨.hbm, 169, rfl⟩
abbrev main_v83 : Ref sig .tc := ⟨.hbm, 170, rfl⟩
abbrev main_v84 : Ref sig .tc := ⟨.hbm, 171, rfl⟩
abbrev main_v85 : Ref sig .tc := ⟨.hbm, 172, rfl⟩
abbrev main_v86 : Ref sig .tc := ⟨.hbm, 173, rfl⟩
abbrev main_v87 : Ref sig .tc := ⟨.hbm, 174, rfl⟩
abbrev main_v88 : Ref sig .tc := ⟨.hbm, 175, rfl⟩
abbrev main_cst_48 : Ref sig .tc := ⟨.hbm, 176, rfl⟩
abbrev main_v89 : Ref sig .tc := ⟨.hbm, 177, rfl⟩
abbrev main_v90 : Ref sig .tc := ⟨.hbm, 178, rfl⟩
abbrev main_v91 : Ref sig .tc := ⟨.hbm, 179, rfl⟩
abbrev main_v92 : Ref sig .tc := ⟨.hbm, 180, rfl⟩

abbrev nD : Nat := 1
abbrev τ : Topo := Topo.v7x

variable {F : FTy → Type} [FloatOps F]
-- ==== Proof.Level.lean ====
/- The table of the sixteen 4-bit levels, read by the four bits of a code, and the two ways a packed byte is turned into
   a code: with 16-bit words (the kernel) and with 32-bit words (the reference). The levels agree for every byte. -/
module

public import Idealize.ShloMosaic.Lib.Pipeline.ValueKit
public import Idealize.ShloMosaic.Lib.ValueIdx

@[expose] public section

noncomputable section

open Idealize.ShloMosaic

namespace Cert.Nf4

/-- The level a code with bits `b0` (lowest) to `b3` (highest) stands for: the table's sixteen bf16 words, chosen by a
    tree of selects, the lowest bit innermost. -/
def nf4 (b0 b1 b2 b3 : BitVec 1) : Ideal .bf16 :=
  Scalar.select b3
    (Scalar.select b2
      (Scalar.select b1
        (Scalar.select b0 (Scalar.ofBits .bf16 0x3F80#16) (Scalar.ofBits .bf16 0x3F39#16))
        (Scalar.select b0 (Scalar.ofBits .bf16 0x3F10#16) (Scalar.ofBits .bf16 0x3EE2#16)))
      (Scalar.select b1
        (Scalar.select b0 (Scalar.ofBits .bf16 0x3EAD#16) (Scalar.ofBits .bf16 0x3E7C#16))
        (Scalar.select b0 (Scalar.ofBits .bf16 0x3E25#16) (Scalar.ofBits .bf16 0x3DA3#16))))
    (Scalar.select b2
      (Scalar.select b1
        (Scalar.select b0 (Scalar.ofBits .bf16 0x0000#16) (Scalar.ofBits .bf16 0xBDBA#16))
        (Scalar.select b0 (Scalar.ofBits .bf16 0xBE3D#16) (Scalar.ofBits .bf16 0xBE92#16)))
      (Scalar.select b1
        (Scalar.select b0 (Scalar.ofBits .bf16 0xBECA#16) (Scalar.ofBits .bf16 0xBF06#16))
        (Scalar.select b0 (Scalar.ofBits .bf16 0xBF32#16) (Scalar.ofBits .bf16 0xBF80#16))))

/-- Whether the word `v` has a bit in common with the mask `k`, as one bit. -/
def bit {n : Nat} (v k : BitVec n) : BitVec 1 := IntOp.cmpi .ne (IntOp.andi v k) 0#n

/-- The level of a code held in a word of any width: the table read by the word's four lowest bits. -/
def level {n : Nat} (v : BitVec n) : Ideal .bf16 :=
  nf4 (bit v (BitVec.ofNat n 1)) (bit v (BitVec.ofNat n 2)) (bit v (BitVec.ofNat n 4)) (bit v (BitVec.ofNat n 8))

/-- The level of a packed byte's low nibble. -/
def levelLo (w : BitVec 8) : Ideal .bf16 := level (w.setWidth 16)

/-- The level of a packed byte's high nibble. -/
def levelHi (w : BitVec 8) : Ideal .bf16 := level (IntOp.shrsi .vector (w.setWidth 16) 4#16)

/-- For every byte, each of the four bit tests on the byte widened to 32 bits and masked to its low nibble gives what
    the same test on the byte widened to 16 bits gives. -/
theorem bit_lo : ∀ w : Fin (2 ^ 8),
    bit (IntOp.andi ((BitVec.ofFin w : BitVec 8).setWidth 32) 15#32) 1#32 = bit ((BitVec.ofFin w : BitVec 8).setWidth 16) 1#16
    ∧ bit (IntOp.andi ((BitVec.ofFin w : BitVec 8).setWidth 32) 15#32) 2#32 = bit ((BitVec.ofFin w : BitVec 8).setWidth 16) 2#16
    ∧ bit (IntOp.andi ((BitVec.ofFin w : BitVec 8).setWidth 32) 15#32) 4#32 = bit ((BitVec.ofFin w : BitVec 8).setWidth 16) 4#16
    ∧ bit (IntOp.andi ((BitVec.ofFin w : BitVec 8).setWidth 32) 15#32) 8#32 = bit ((BitVec.ofFin w : BitVec 8).setWidth 16) 8#16 := by
  decide +kernel

/-- For every byte, each of the four bit tests on the byte widened to 32 bits and shifted right by four gives what the
    same test on the byte widened to 16 bits and shifted right by four gives. -/
theorem bit_hi : ∀ w : Fin (2 ^ 8),
    bit (IntOp.shrsi .host ((BitVec.ofFin w : BitVec 8).setWidth 32) 4#32) 1#32 = bit (IntOp.shrsi .vector ((BitVec.ofFin w : BitVec 8).setWidth 16) 4#16) 1#16
    ∧ bit (IntOp.shrsi .host ((BitVec.ofFin w : BitVec 8).setWidth 32) 4#32) 2#32 = bit (IntOp.shrsi .vector ((BitVec.ofFin w : BitVec 8).setWidth 16) 4#16) 2#16
    ∧ bit (IntOp.shrsi .host ((BitVec.ofFin w : BitVec 8).setWidth 32) 4#32) 4#32 = bit (IntOp.shrsi .vector ((BitVec.ofFin w : BitVec 8).setWidth 16) 4#16) 4#16
    ∧ bit (IntOp.shrsi .host ((BitVec.ofFin w : BitVec 8).setWidth 32) 4#32) 8#32 = bit (IntOp.shrsi .vector ((BitVec.ofFin w : BitVec 8).setWidth 16) 4#16) 8#16 := by
  decide +kernel

/-- The level of the byte masked to its low nibble in 32 bits is the level of its low nibble. -/
theorem level_lo (w : BitVec 8) : level (IntOp.andi (w.setWidth 32) 15#32) = levelLo w := by
  obtain ⟨h1, h2, h4, h8⟩ := bit_lo w.toFin
  exact congr (congr (congr (congrArg nf4 h1) h2) h4) h8

/-- The level of the byte shifted right by four in 32 bits is the level of its high nibble. -/
theorem level_hi (w : BitVec 8) : level (IntOp.shrsi .host (w.setWidth 32) 4#32) = levelHi w := by
  obtain ⟨h1, h2, h4, h8⟩ := bit_hi w.toFin
  exact congr (congr (congr (congrArg nf4 h1) h2) h4) h8

end Cert.Nf4

end
-- ==== Proof.Trip.lean ====
/- The dequantised weight block. The kernel's loop fills a scratch of 9600 rows, 64 low-nibble rows and 64 high-nibble rows
   in each of 75 trips; here each store is shown to write rows of ONE matrix `deq`, so the filled scratch reads as it. -/
module

public import proofs.«01_k».proof.Proof.Level
public import proofs.«01_k».proof.Proof.Gen.KernelIdeal.Loops
public import Idealize.ShloMosaic.Lib.Pipeline.ValueKit
public import Idealize.ShloMosaic.Lib.ValueIdx
public import Idealize.ShloMosaic.Lib.Ring

@[expose] public section

set_option maxRecDepth 16384

noncomputable section

open Idealize.ShloMosaic Idealize.ShloMosaic.TcCoe Idealize.SL.Sem

namespace Cert.Nf4

/-- Row `r`, column `n` of the dequantised weight: the level of the row's nibble (rows below 4800 are the low nibbles of
    the packed rows, the rows from 4800 on the high nibbles) times the scale of the row's block of 64 rows. -/
def deq {N : Nat} (wp : (⟨2, ![4800, N]⟩ : Shape).Idx → BitVec 8) (sc : (⟨2, ![150, N]⟩ : Shape).Idx → EReal)
    (r : Fin 9600) (n : Fin N) : EReal :=
  if h : r.val < 4800 then
    (levelLo (wp (ValueIdx.ix2 ⟨r.val, h⟩ n)) : EReal) * sc (ValueIdx.ix2 ⟨r.val / 64, by omega⟩ n)
  else
    (levelHi (wp (ValueIdx.ix2 ⟨r.val - 4800, by omega⟩ n)) : EReal) * sc (ValueIdx.ix2 ⟨r.val / 64, by omega⟩ n)

/-- A row below 4800, read: the packed row of the same number, the scale of its block. -/
theorem deq_lo {N : Nat} (wp : (⟨2, ![4800, N]⟩ : Shape).Idx → BitVec 8) (sc : (⟨2, ![150, N]⟩ : Shape).Idx → EReal)
    (r : Fin 9600) (n : Fin N) (j : (⟨2, ![4800, N]⟩ : Shape).Idx) (s : (⟨2, ![150, N]⟩ : Shape).Idx)
    (hj0 : (j 0).val = r.val) (hj1 : (j 1).val = n.val) (hs0 : (s 0).val = r.val / 64) (hs1 : (s 1).val = n.val) :
    deq wp sc r n = (levelLo (wp j) : EReal) * sc s := by
  have hr : r.val < 4800 := hj0 ▸ (j 0).isLt
  have ej : j = ValueIdx.ix2 ⟨r.val, hr⟩ n := funext fun a => Fin.ext (by
    match a with
    | ⟨0, _⟩ => exact hj0
    | ⟨1, _⟩ => exact hj1)
  have es : s = ValueIdx.ix2 ⟨r.val / 64, by omega⟩ n := funext fun a => Fin.ext (by
    match a with
    | ⟨0, _⟩ => exact hs0
    | ⟨1, _⟩ => exact hs1)
  rw [deq, dif_pos hr, ej, es]

/-- A row from 4800 on, read: the packed row 4800 before it, the scale of its block. -/
theorem deq_hi {N : Nat} (wp : (⟨2, ![4800, N]⟩ : Shape).Idx → BitVec 8) (sc : (⟨2, ![150, N]⟩ : Shape).Idx → EReal)
    (r : Fin 9600) (n : Fin N) (j : (⟨2, ![4800, N]⟩ : Shape).Idx) (s : (⟨2, ![150, N]⟩ : Shape).Idx)
    (hj0 : (j 0).val + 4800 = r.val) (hj1 : (j 1).val = n.val) (hs0 : (s 0).val = r.val / 64) (hs1 : (s 1).val = n.val) :
    deq wp sc r n = (levelHi (wp j) : EReal) * sc s := by
  have hr : ¬r.val < 4800 := by omega
  have ej : j = ValueIdx.ix2 ⟨r.val - 4800, by omega⟩ n := funext fun a => Fin.ext (by
    match a with
    | ⟨0, _⟩ => show (j 0).val = r.val - 4800; omega
    | ⟨1, _⟩ => exact hj1)
  have es : s = ValueIdx.ix2 ⟨r.val / 64, by omega⟩ n := funext fun a => Fin.ext (by
    match a with
    | ⟨0, _⟩ => exact hs0
    | ⟨1, _⟩ => exact hs1)
  rw [deq, dif_neg hr, ej, es]

end Cert.Nf4

namespace Cert.KernelIdeal.Val

open Cert.KernelIdeal Cert.KernelIdeal.Gen Cert.Nf4

/-- The block of 64 packed rows trip `k` loads. -/
abbrev ldW (X2 : Vec Ideal S4800x512 .i8) (k : Fin k0_t1_loop.trips) : Vec Ideal S64x512 .i8 :=
  View.ld X2 (Rect.unit (k0_off1 k) S64x512.size (k0_off1_inb k))
/-- The row of scales trip `k` loads for the low nibbles. -/
abbrev ldLo (X3 : Vec Ideal S150x512 .f32) (k : Fin k0_t1_loop.trips) : Vec Ideal S1x512 .f32 :=
  View.ld X3 (Rect.unit (k0_off2 k) S1x512.size (k0_off2_inb k))
/-- The row of scales trip `k` loads for the high nibbles. -/
abbrev ldHi (X3 : Vec Ideal S150x512 .f32) (k : Fin k0_t1_loop.trips) : Vec Ideal S1x512 .f32 :=
  View.ld X3 (Rect.unit (k0_off3 k) S1x512.size (k0_off3_inb k))

/-- What a trip stores for the low nibbles of the packed rows `w` under the scales `s`. -/
abbrev payLo (w : Vec Ideal S64x512 .i8) (s : Vec Ideal S1x512 .f32) : Vec Ideal S64x512 .bf16 :=
  k0_pay14 (F := Ideal) (k0_pay4 w) (k0_pay5 s) (k0_pay7 w) (k0_pay8 w) (k0_pay9 w) (k0_pay10 w) (k0_pay11 w) (k0_pay12 w)
    (k0_pay13 w) (FloatOps.ofBits FTy.bf16 0x3F10#16) (FloatOps.ofBits FTy.bf16 0x3EE2#16)
/-- What a trip stores for the high nibbles of the packed rows `w` under the scales `s`. -/
abbrev payHi (w : Vec Ideal S64x512 .i8) (s : Vec Ideal S1x512 .f32) : Vec Ideal S64x512 .bf16 :=
  k0_pay2 (F := Ideal) (k0_pay19 (k0_pay6 s) (k0_pay15 (k0_pay4 (F := Ideal) w)) (k0_pay16 (k0_pay4 (F := Ideal) w)) (k0_pay17 (k0_pay4 (F := Ideal) w)) (k0_pay18 (k0_pay4 (F := Ideal) w)))

/-- One element a trip stores for the low nibbles: the level of the byte's low nibble times its column's scale. -/
theorem payLo_apply (w : Vec Ideal S64x512 .i8) (s : Vec Ideal S1x512 .f32) (x : S64x512.Idx) :
    payLo w s x = (levelLo (w x) : EReal) * s (ValueIdx.ix2 0 (x 1)) := by
  have hb : ∀ v : FVec Ideal S1x512 .bf16, broadcastTo S64x512 v broadcasts_S1x512_S64x512 x = v (ValueIdx.ix2 0 (x 1)) := fun v =>
    broadcastTo_apply v broadcasts_S1x512_S64x512 x (ValueIdx.ix2 0 (x 1)) (fun a => by
      match a with
      | ⟨0, _⟩ => rfl
      | ⟨1, _⟩ => rfl)
  unfold payLo k0_pay14
  rw [shapeCast_self, ValueIdx.mulf_apply, hb]
  rfl

/-- One element a trip stores for the high nibbles: the level of the byte's high nibble times its column's scale. -/
theorem payHi_apply (w : Vec Ideal S64x512 .i8) (s : Vec Ideal S1x512 .f32) (x : S64x512.Idx) :
    payHi w s x = (levelHi (w x) : EReal) * s (ValueIdx.ix2 0 (x 1)) := by
  have hb : ∀ v : FVec Ideal S1x512 .bf16, broadcastTo S64x512 v broadcasts_S1x512_S64x512 x = v (ValueIdx.ix2 0 (x 1)) := fun v =>
    broadcastTo_apply v broadcasts_S1x512_S64x512 x (ValueIdx.ix2 0 (x 1)) (fun a => by
      match a with
      | ⟨0, _⟩ => rfl
      | ⟨1, _⟩ => rfl)
  unfold payHi k0_pay2 k0_pay19
  rw [shapeCast_self, ValueIdx.mulf_apply, hb]
  rfl

variable (𝒱 : Variants) (c : Dev nD) (bd : Option 𝒱.V) (i : grid0.Coords) (arg1 : Memref sig .tc .vmem S1024x9600 .bf16) (harg1 : arg1.IsWhole) (arg2 : Memref sig .tc .vmem S4800x512 .i8) (harg2 : arg2.IsWhole) (arg3 : Memref sig .tc .vmem S150x512 .f32) (harg3 : arg3.IsWhole) (arg4 : Memref sig .tc .vmem S9600x16 .bf16) (harg4 : arg4.IsWhole) (arg5 : Memref sig .tc .vmem S16x512 .bf16) (harg5 : arg5.IsWhole) (arg6 : Memref sig .tc .vmem S1024x512 .bf16) (harg6 : arg6.IsWhole) (arg7 : Memref sig .tc .vmem S9600x512 .bf16) (harg7 : arg7.IsWhole) (arg8 : Memref sig .tc .vmem S1024x16 .bf16) (harg8 : arg8.IsWhole)

/-- The two stores of trip `k`, last first: the high-nibble rows from 64 k + 4800 on and the low-nibble rows from 64 k on. -/
theorem trip_pieces (X2 : Vec Ideal S4800x512 .i8) (X3 : Vec Ideal S150x512 .f32) (k : Fin k0_t1_loop.trips) :
    tripL_k0_t1 (F := Ideal) 𝒱 c bd i arg1 harg1 arg2 harg2 arg3 harg3 arg4 harg4 arg5 harg5 arg6 harg6 arg7 harg7 arg8 harg8 (harg2.unread X2) (harg3.unread X3) k
      = [⟨Rect.unit (k0_off5 k) S64x512.size (k0_off5_inb k), payHi (ldW X2 k) (ldHi X3 k)⟩,
         ⟨Rect.unit (k0_off4 k) S64x512.size (k0_off4_inb k), payLo (ldW X2 k) (ldLo X3 k)⟩] := by
  unfold tripL_k0_t1 trip_k0_t1
  dsimp only
  sl_unfold_words
  simp only [View.readAt_eq_ld, harg2.read_unread, harg3.read_unread]
  rfl

/-- The dequantised block as the contents of the scratch. -/
abbrev deqBlk (X2 : Vec Ideal S4800x512 .i8) (X3 : Vec Ideal S150x512 .f32) : Vec Ideal S9600x512 .bf16 :=
  fun y => deq (N := 512) X2 X3 (y 0) (y 1)

/-- Each of trip `k`'s stores writes rows of the dequantised block. -/
theorem trip_deq (X2 : Vec Ideal S4800x512 .i8) (X3 : Vec Ideal S150x512 .f32) (k : Fin k0_t1_loop.trips) :
    ∀ p ∈ tripL_k0_t1 (F := Ideal) 𝒱 c bd i arg1 harg1 arg2 harg2 arg3 harg3 arg4 harg4 arg5 harg5 arg6 harg6 arg7 harg7 arg8 harg8 (harg2.unread X2) (harg3.unread X3) k,
      ∀ x, p.2 x = deqBlk X2 X3 (p.1.emb x) := by
  have hk : k.val < 75 := Nat.lt_of_lt_of_le k.isLt k0_t1_abs.2.1
  have o10 : k0_off1 k 0 = 64 * k.val := congrFun (k0_off1_eq k) 0
  have o11 : k0_off1 k 1 = 0 := congrFun (k0_off1_eq k) 1
  have o20 : k0_off2 k 0 = k.val := congrFun (k0_off2_eq k) 0
  have o21 : k0_off2 k 1 = 0 := congrFun (k0_off2_eq k) 1
  have o30 : k0_off3 k 0 = k.val + 75 := congrFun (k0_off3_eq k) 0
  have o31 : k0_off3 k 1 = 0 := congrFun (k0_off3_eq k) 1
  have o40 : k0_off4 k 0 = 64 * k.val := congrFun (k0_off4_eq k) 0
  have o41 : k0_off4 k 1 = 0 := congrFun (k0_off4_eq k) 1
  have o50 : k0_off5 k 0 = 64 * k.val + 4800 := congrFun (k0_off5_eq k) 0
  have o51 : k0_off5 k 1 = 0 := congrFun (k0_off5_eq k) 1
  rw [trip_pieces]
  intro p hp x
  rcases List.mem_cons.mp hp with rfl | hp
  · have h0 : (x 0).val < 64 := (x 0).isLt
    exact (payHi_apply _ _ x).trans (Eq.symm (deq_hi (N := 512) X2 X3 _ _ _ _
      (by show k0_off1 k 0 + 1 * (x 0).val + 4800 = k0_off5 k 0 + 1 * (x 0).val; rw [o10, o50]; omega)
      (by show k0_off1 k 1 + 1 * (x 1).val = k0_off5 k 1 + 1 * (x 1).val; rw [o11, o51])
      (by show k0_off3 k 0 + 1 * 0 = (k0_off5 k 0 + 1 * (x 0).val) / 64; rw [o30, o50]; omega)
      (by show k0_off3 k 1 + 1 * (x 1).val = k0_off5 k 1 + 1 * (x 1).val; rw [o31, o51])))
  · rcases List.mem_singleton.mp hp with rfl
    have h0 : (x 0).val < 64 := (x 0).isLt
    exact (payLo_apply _ _ x).trans (Eq.symm (deq_lo (N := 512) X2 X3 _ _ _ _
      (by show k0_off1 k 0 + 1 * (x 0).val = k0_off4 k 0 + 1 * (x 0).val; rw [o10, o40])
      (by show k0_off1 k 1 + 1 * (x 1).val = k0_off4 k 1 + 1 * (x 1).val; rw [o11, o41])
      (by show k0_off2 k 0 + 1 * 0 = (k0_off4 k 0 + 1 * (x 0).val) / 64; rw [o20, o40]; omega)
      (by show k0_off2 k 1 + 1 * (x 1).val = k0_off4 k 1 + 1 * (x 1).val; rw [o21, o41])))

/-- So do all the stores of the trips before `k`. -/
theorem trips_deq (X2 : Vec Ideal S4800x512 .i8) (X3 : Vec Ideal S150x512 .f32) : ∀ k : ℕ, k ≤ k0_t1_loop.trips →
    ∀ p ∈ pb_k0_t1 (F := Ideal) 𝒱 c bd i arg1 harg1 arg2 harg2 arg3 harg3 arg4 harg4 arg5 harg5 arg6 harg6 arg7 harg7 arg8 harg8 (harg2.unread X2) (harg3.unread X3) k,
      ∀ x, p.2 x = deqBlk X2 X3 (p.1.emb x)
  | 0, _, p, hp => absurd hp List.not_mem_nil
  | k + 1, h, p, hp => by
    rw [pb_k0_t1_succ 𝒱 c bd i arg1 harg1 arg2 harg2 arg3 harg3 arg4 harg4 arg5 harg5 arg6 harg6 arg7 harg7 arg8 harg8 _ _ ⟨k, h⟩] at hp
    rcases List.mem_append.mp hp with hp | hp
    · exact trip_deq 𝒱 c bd i arg1 harg1 arg2 harg2 arg3 harg3 arg4 harg4 arg5 harg5 arg6 harg6 arg7 harg7 arg8 harg8 X2 X3 ⟨k, h⟩ p hp
    · exact trips_deq X2 X3 k (Nat.le_of_succ_le h) p hp

/-- The stores of all the trips tile the scratch in blocks of 64 rows, so every entry is stored. -/
theorem trips_cover (X2 : Vec Ideal S4800x512 .i8) (X3 : Vec Ideal S150x512 .f32) (y : S9600x512.Idx) :
    ∃ p ∈ pb_k0_t1 (F := Ideal) 𝒱 c bd i arg1 harg1 arg2 harg2 arg3 harg3 arg4 harg4 arg5 harg5 arg6 harg6 arg7 harg7 arg8 harg8 (harg2.unread X2) (harg3.unread X3) k0_t1_loop.trips, y ∈ p.1.set :=
  View.cover_of_tiledL (pb_k0_t1 (F := Ideal) 𝒱 c bd i arg1 harg1 arg2 harg2 arg3 harg3 arg4 harg4 arg5 harg5 arg6 harg6 arg7 harg7 arg8 harg8 (harg2.unread X2) (harg3.unread X3) k0_t1_loop.trips) S64x512.size (by sl_kernel_rfl) y

/-- THE SCRATCH AFTER THE LOOP: read whole, what the 75 trips stored is the dequantised block, since the stores tile the
    scratch and each writes the block's rows. -/
theorem readCov_deq (X2 : Vec Ideal S4800x512 .i8) (X3 : Vec Ideal S150x512 .f32) :
    arg7.view.readCov (pb_k0_t1 (F := Ideal) 𝒱 c bd i arg1 harg1 arg2 harg2 arg3 harg3 arg4 harg4 arg5 harg5 arg6 harg6 arg7 harg7 arg8 harg8 (harg2.unread X2) (harg3.unread X3) k0_t1_loop.trips)
      (Rect.unit ![0, 0] ![9600, 512] inb_S9600x512_S9600x512_0_0).toLoadRect = deqBlk X2 X3 := by
  rw [View.readCov_eq_canon']
  funext j
  rw [View.canon_apply_of_pieces (deqBlk X2 X3) _ (trips_deq 𝒱 c bd i arg1 harg1 arg2 harg2 arg3 harg3 arg4 harg4 arg5 harg5 arg6 harg6 arg7 harg7 arg8 harg8 X2 X3 _ le_rfl) _
    (trips_cover 𝒱 c bd i arg1 harg1 arg2 harg2 arg3 harg3 arg4 harg4 arg5 harg5 arg6 harg6 arg7 harg7 arg8 harg8 X2 X3 _)]
  congr 1
  funext a
  apply Fin.ext
  match a with
  | ⟨0, _⟩ => show 0 + 1 * (j 0).val = (j 0).val; omega
  | ⟨1, _⟩ => show 0 + 1 * (j 1).val = (j 1).val; omega

end Cert.KernelIdeal.Val

end
-- ==== Proof.Block.lean ====
/- What the kernel's body leaves at a grid point: in the output's block, and in the scratch it carries from point to point. -/
module

public import proofs.«01_k».proof.Proof.Trip
public import proofs.«01_k».proof.Proof.Gen.KernelIdeal.Frame
public import Idealize.ShloMosaic.Lib.MatmulPlain

@[expose] public section

set_option maxRecDepth 16384

noncomputable section

open Idealize.ShloMosaic Idealize.ShloMosaic.TcCoe Idealize.SL.Sem

namespace Cert.Nf4

/-- Row `r`, column `n` of the result: the row of `x` against the column of the dequantised weight, plus twice the row of
    `x · A` against the column of `B`. -/
def res {N : Nat} (x : (⟨2, ![1024, 9600]⟩ : Shape).Idx → EReal) (wp : (⟨2, ![4800, N]⟩ : Shape).Idx → BitVec 8)
    (sc : (⟨2, ![150, N]⟩ : Shape).Idx → EReal) (A : (⟨2, ![9600, 16]⟩ : Shape).Idx → EReal)
    (B : (⟨2, ![16, N]⟩ : Shape).Idx → EReal) (r : Fin 1024) (n : Fin N) : EReal :=
  (∑ k : Fin 9600, x (ValueIdx.ix2 r k) * deq wp sc k n)
    + Ideal.ofBits .f32 0x40000000#32 * ∑ q : Fin 16, (∑ k : Fin 9600, x (ValueIdx.ix2 r k) * A (ValueIdx.ix2 k q)) * B (ValueIdx.ix2 q n)

/-- A column of the weight depends on that column of its operands alone. -/
theorem deq_congr {N M : Nat} (wp : (⟨2, ![4800, N]⟩ : Shape).Idx → BitVec 8) (sc : (⟨2, ![150, N]⟩ : Shape).Idx → EReal)
    (wp' : (⟨2, ![4800, M]⟩ : Shape).Idx → BitVec 8) (sc' : (⟨2, ![150, M]⟩ : Shape).Idx → EReal) (n : Fin N) (n' : Fin M)
    (hw : ∀ k, wp (ValueIdx.ix2 k n) = wp' (ValueIdx.ix2 k n')) (hs : ∀ k, sc (ValueIdx.ix2 k n) = sc' (ValueIdx.ix2 k n')) (r : Fin 9600) :
    deq wp sc r n = deq wp' sc' r n' := by
  unfold deq
  simp only [hw, hs]

/-- And so does a column of the result. -/
theorem res_congr {N M : Nat} (x : (⟨2, ![1024, 9600]⟩ : Shape).Idx → EReal) (A : (⟨2, ![9600, 16]⟩ : Shape).Idx → EReal)
    (wp : (⟨2, ![4800, N]⟩ : Shape).Idx → BitVec 8) (sc : (⟨2, ![150, N]⟩ : Shape).Idx → EReal) (B : (⟨2, ![16, N]⟩ : Shape).Idx → EReal)
    (wp' : (⟨2, ![4800, M]⟩ : Shape).Idx → BitVec 8) (sc' : (⟨2, ![150, M]⟩ : Shape).Idx → EReal) (B' : (⟨2, ![16, M]⟩ : Shape).Idx → EReal)
    (n : Fin N) (n' : Fin M) (hw : ∀ k, wp (ValueIdx.ix2 k n) = wp' (ValueIdx.ix2 k n')) (hs : ∀ k, sc (ValueIdx.ix2 k n) = sc' (ValueIdx.ix2 k n'))
    (hB : ∀ k, B (ValueIdx.ix2 k n) = B' (ValueIdx.ix2 k n')) (r : Fin 1024) :
    res x wp sc A B r n = res x wp' sc' A B' r n' := by
  unfold res
  simp only [hB, deq_congr wp sc wp' sc' n n' hw hs]

end Cert.Nf4

namespace Cert.KernelIdeal.Val

open Cert.KernelIdeal Cert.KernelIdeal.Gen Cert.Nf4

section Cases

variable (c : Dev nD) (i : grid0.Coords) (arg1 : Memref sig .tc .vmem S1024x9600 .bf16) (harg1 : arg1.IsWhole) (arg2 : Memref sig .tc .vmem S4800x512 .i8) (harg2 : arg2.IsWhole) (arg3 : Memref sig .tc .vmem S150x512 .f32) (harg3 : arg3.IsWhole) (arg4 : Memref sig .tc .vmem S9600x16 .bf16) (harg4 : arg4.IsWhole) (arg5 : Memref sig .tc .vmem S16x512 .bf16) (harg5 : arg5.IsWhole) (arg6 : Memref sig .tc .vmem S1024x512 .bf16) (harg6 : arg6.IsWhole) (arg7 : Memref sig .tc .vmem S9600x512 .bf16) (harg7 : arg7.IsWhole) (arg8 : Memref sig .tc .vmem S1024x16 .bf16) (harg8 : arg8.IsWhole)
  (x0 : Vec Ideal S1024x9600 .bf16) (x1 : Vec Ideal S4800x512 .i8) (x2 : Vec Ideal S150x512 .f32) (x3 : Vec Ideal S9600x16 .bf16) (x4 : Vec Ideal S16x512 .bf16)

/-- At the first point the output's block is the two products over the dequantised block and `bf16(x · A)` just computed. -/
theorem out_A (hc0 : cond0_0 i) :
    out0_A_5 c i arg1 harg1 arg2 harg2 arg3 harg3 arg4 harg4 arg5 harg5 arg6 harg6 arg7 harg7 arg8 harg8 hc0 x0 x1 x2 x3 x4 = k0_pay3 x0 (deqBlk x1 x2) (k0_pay1 x0 x3) x4 := by
  frame_out
  exact congrArg (fun w => k0_pay3 x0 w (k0_pay1 x0 x3) x4) (readCov_deq Variants.none c none i arg1 harg1 arg2 harg2 arg3 harg3 arg4 harg4 arg5 harg5 arg6 harg6 arg7 harg7 arg8 harg8 x1 x2)

/-- At the first point the carried scratch is left at `bf16(x · A)`. -/
theorem sout_A (hc0 : cond0_0 i) :
    sout0_A_1 c i arg1 harg1 arg2 harg2 arg3 harg3 arg4 harg4 arg5 harg5 arg6 harg6 arg7 harg7 arg8 harg8 hc0 x0 x1 x2 x3 x4 = k0_pay1 x0 x3 := by
  frame_out

/-- At a later point the output's block is the same two products, over the carried scratch. -/
theorem out_B (hc0 : ¬cond0_0 i) (xs1 : Vec Ideal S1024x16 .bf16) :
    out0_B_5 c i arg1 harg1 arg2 harg2 arg3 harg3 arg4 harg4 arg5 harg5 arg6 harg6 arg7 harg7 arg8 harg8 hc0 x0 x1 x2 x3 x4 xs1 = k0_pay3 x0 (deqBlk x1 x2) xs1 x4 := by
  frame_out
  exact congrArg (fun w => k0_pay3 x0 w xs1 x4) (readCov_deq Variants.none c none i arg1 harg1 arg2 harg2 arg3 harg3 arg4 harg4 arg5 harg5 arg6 harg6 arg7 harg7 arg8 harg8 x1 x2)

end Cases

/-- A product of a matrix by a matrix into a zero accumulator, read at a row and a column. -/
theorem dot_apply {M K N : Nat} (d : DotDims ⟨2, ![M, K]⟩ ⟨2, ![K, N]⟩ ⟨2, ![M, N]⟩) (hd : d = DotDims.plain M K N) {φ₁ φ₂ : FTy}
    (lhs : FVec Ideal ⟨2, ![M, K]⟩ φ₁) (rhs : FVec Ideal ⟨2, ![K, N]⟩ φ₂) (r : Fin M) (n : Fin N) :
    matmul d none lhs rhs (constant ⟨2, ![M, N]⟩ .f32 0x00000000#32) (ValueIdx.ix2 r n)
      = ∑ k : Fin K, lhs (ValueIdx.ix2 r k) * rhs (ValueIdx.ix2 k n) := by
  subst hd
  refine (Ideal.matmul_plain_apply none lhs rhs _ r n).trans ?_
  show Ideal.ofBits .f32 0x00000000#32 + _ = _
  rw [Ideal.ofBits_zero_f32, zero_add]

/-- `bf16(x · A)` at a row and a column. -/
theorem pay1_apply (x0 : Vec Ideal S1024x9600 .bf16) (x3 : Vec Ideal S9600x16 .bf16) (r : Fin 1024) (q : Fin 16) :
    k0_pay1 x0 x3 (ValueIdx.ix2 r q) = ∑ k : Fin 9600, x0 (ValueIdx.ix2 r k) * x3 (ValueIdx.ix2 k q) := by
  unfold k0_pay1
  rw [shapeCast_self, shapeCast_self]
  exact dot_apply (φ₁ := .bf16) (φ₂ := .bf16) dot_S1024x9600_S9600x16_S1024x16_1_0_0_1_n_n rfl x0 x3 r q

/-- What a point stores in the output's block, at a row and a column: the result's entry, over the point's blocks. -/
theorem pay3_apply (x0 : Vec Ideal S1024x9600 .bf16) (x1 : Vec Ideal S4800x512 .i8) (x2 : Vec Ideal S150x512 .f32)
    (x3 : Vec Ideal S9600x16 .bf16) (x4 : Vec Ideal S16x512 .bf16) (r : Fin 1024) (n : Fin 512) :
    k0_pay3 x0 (deqBlk x1 x2) (k0_pay1 x0 x3) x4 (ValueIdx.ix2 r n) = res (N := 512) x0 x1 x2 x3 x4 r n := by
  unfold k0_pay3
  rw [shapeCast_self]
  refine (congrArg₂ (fun a b : EReal => a + Ideal.ofBits .f32 0x40000000#32 * b)
    (dot_apply (φ₁ := .bf16) (φ₂ := .bf16) dot_S1024x9600_S9600x512_S1024x512_1_0_0_1_n_n rfl x0 (deqBlk x1 x2) r n)
    (dot_apply (φ₁ := .bf16) (φ₂ := .bf16) dot_S1024x16_S16x512_S1024x512_1_0_0_1_n_n rfl (k0_pay1 x0 x3) x4 r n)).trans ?_
  simp only [pay1_apply]
  rfl

end Cert.KernelIdeal.Val

end
-- ==== Proof.Array.lean ====
/- From the grid points to the whole result: every point writes the result's entries of its 512 columns, the columns tile the
   array, and the reshapes before and after the kernel only rename indices. -/
module

public import proofs.«01_k».proof.Proof.Block

@[expose] public section

set_option maxRecDepth 16384

noncomputable section

open Idealize.ShloMosaic Idealize.ShloMosaic.TcCoe Idealize.SL.Sem

namespace Cert.KernelIdeal.Val

open Cert.KernelIdeal Cert.KernelIdeal.Gen Cert.Nf4

variable (m : (ℓ : Loc nD τ sig) → Buf (Elt Ideal) ℓ)

/-- Where each window's block stands at a point: the first and the fourth are whole arrays, the others the point's columns. -/
theorem idx : ∀ t : Fin cfg0.N, win0_0.index t = ![0, 0] ∧ win0_1.index t = ![0, t.val] ∧ win0_2.index t = ![0, t.val]
    ∧ win0_3.index t = ![0, 0] ∧ win0_4.index t = ![0, t.val] ∧ win0_5.index t = ![0, t.val] := by
  decide +kernel

/-- The first operand's block is the whole array. -/
theorem iblk_0 (c : Dev nD) (t : Fin cfg0.N) : iblk m c 0 t = V m c main_v0 := by
  funext y
  blk_ext [iblk, V, idx t]

/-- The fourth operand's block is the whole array. -/
theorem iblk_3 (c : Dev nD) (t : Fin cfg0.N) : iblk m c 3 t = V m c main_arg3 := by
  funext y
  blk_ext [iblk, V, idx t]

/-- Entry `(k, n)` of the packed weights' block is entry `(k, 512 t + n)` of the array. -/
theorem iblk_1 (c : Dev nD) (t : Fin cfg0.N) (k : Fin 4800) (n : Fin 512) (n' : Fin 12288) (hn : n'.val = t.val * 512 + n.val) :
    iblk m c 1 t (ValueIdx.ix2 k n) = V m c main_arg1 (ValueIdx.ix2 k n') := by
  blk_ext [iblk, V, idx t]
  exact hn.symm

/-- Entry `(k, n)` of the scales' block is entry `(k, 512 t + n)` of the array. -/
theorem iblk_2 (c : Dev nD) (t : Fin cfg0.N) (k : Fin 150) (n : Fin 512) (n' : Fin 12288) (hn : n'.val = t.val * 512 + n.val) :
    iblk m c 2 t (ValueIdx.ix2 k n) = V m c main_arg2 (ValueIdx.ix2 k n') := by
  blk_ext [iblk, V, idx t]
  exact hn.symm

/-- Entry `(k, n)` of the block of `B` is entry `(k, 512 t + n)` of the array. -/
theorem iblk_4 (c : Dev nD) (t : Fin cfg0.N) (k : Fin 16) (n : Fin 512) (n' : Fin 12288) (hn : n'.val = t.val * 512 + n.val) :
    iblk m c 4 t (ValueIdx.ix2 k n) = V m c main_arg4 (ValueIdx.ix2 k n') := by
  blk_ext [iblk, V, idx t]
  exact hn.symm

/-- The carried scratch holds `bf16(x · A)` after every point: the first computes it, the later ones leave it. -/
theorem carried (c : Dev nD) : ∀ (n : ℕ) (hn : n < cfg0.N),
    (outsAt0 m c n hn).2 = k0_pay1 (F := Ideal) (V m c main_v0) (V m c main_arg3)
  | 0, hn => by
    rw [outsAt0_A m c ⟨0, hn⟩ rfl]
    dsimp only
    rw [sout_A, iblk_0, iblk_3]
  | n + 1, hn => by
    have hN : cfg0.N = 24 := N_0
    rw [outsAt0_B m c ⟨n + 1, hn⟩ (by show ¬(n + 1) % 24 = 0; omega)]
    exact carried c n _

/-- What a point leaves in the output's block, whichever case it is in. -/
theorem out_eq (c : Dev nD) (t : Fin cfg0.N) :
    (outsAt0 m c t.val t.isLt).1 = k0_pay3 (F := Ideal) (V m c main_v0) (deqBlk (iblk m c 1 t) (iblk m c 2 t))
      (k0_pay1 (F := Ideal) (V m c main_v0) (V m c main_arg3)) (iblk m c 4 t) := by
  by_cases h : t.val % 24 = 0
  · rw [outsAt0_A m c t h]
    dsimp only
    rw [out_A, iblk_0, iblk_3]
  · rw [outsAt0_B m c t h]
    dsimp only
    rw [out_B, iblk_0, carried]

/-- The kernel's array after the run: the result's entry at every row and column. -/
def arr (c : Dev nD) : S1024x12288.Idx → EReal := fun i =>
  res (N := 12288) (V m c main_v0) (V m c main_arg1) (V m c main_arg2) (V m c main_arg3) (V m c main_arg4) (i 0) (i 1)

/-- What a point leaves, at a row and a column of its block: the array's entry there. -/
theorem point (c : Dev nD) (t : Fin cfg0.N) (r : Fin 1024) (n : Fin 512) (i : S1024x12288.Idx) (h0 : (i 0).val = r.val)
    (h1 : (i 1).val = t.val * 512 + n.val) :
    k0_pay3 (F := Ideal) (V m c main_v0) (deqBlk (iblk m c 1 t) (iblk m c 2 t)) (k0_pay1 (F := Ideal) (V m c main_v0) (V m c main_arg3))
      (iblk m c 4 t) (ValueIdx.ix2 r n) = arr m c i := by
  have e0 : i 0 = r := Fin.ext h0
  refine (pay3_apply (V m c main_v0) (iblk m c 1 t) (iblk m c 2 t) (V m c main_arg3) (iblk m c 4 t) r n).trans ?_
  unfold arr
  rw [e0]
  exact res_congr (V m c main_v0) (V m c main_arg3) _ _ _ _ _ _ n (i 1) (fun k => iblk_1 m c t k n (i 1) h1)
    (fun k => iblk_2 m c t k n (i 1) h1) (fun k => iblk_4 m c t k n (i 1) h1) r

/-- Every point writes its block of it, and the blocks cover it. -/
theorem arrAt_5 (c : Dev nD) : (dats m 0 c).arrAt 5 cfg0.N = arr m c := by
  refine (dats m 0 c).arrAt_eq_of_covers 5 _ (by decide +kernel) fun t hf y => ?_
  have h0 : (((cfg0.win 5).blk t).view.emb y 0 : ℕ) = (y 0).val := by blk_simp [idx t]
  have h1 : (((cfg0.win 5).blk t).view.emb y 1 : ℕ) = t.val * 512 + (y 1).val := by blk_simp [idx t]
  blk_simp
  rw [after0_5, out_eq]
  have e : y = ValueIdx.ix2 (y 0) (y 1) := ValueIdx.eq_ix2 y
  exact (congrArg _ e).trans (point m c t (y 0) (y 1) _ h0 h1)

end Cert.KernelIdeal.Val

end
-- ==== Proof.Host.lean ====
/- The kernel's run as one statement: the array it leaves, read through the reshapes before and after the kernel. -/
module

public import proofs.«01_k».proof.Proof.Array

@[expose] public section

set_option maxRecDepth 16384

noncomputable section

open Idealize.ShloMosaic Idealize.ShloMosaic.TcCoe Idealize.SL.Sem

namespace Cert.KernelIdeal.Val

open Cert.KernelIdeal Cert.KernelIdeal.Gen Cert.Nf4

variable (m : (ℓ : Loc nD τ sig) → Buf (Elt Ideal) ℓ)

/-- The kernel's first operand as launched, its two leading axes taken together. -/
theorem V_main_v0 (c : Dev nD) : V m c main_v0 = shapeCast S1024x9600 (m ((c : Thread nD τ).loc main_arg0)) shapeCasts_S2x512x9600_S1024x9600 := by
  show StableHlo.after (List.flatten [hostOps0]) (fun b => m (c, b)) (Proc.devRef .tc main_v0) = _
  simp only [hostOps0, List.flatten_cons, List.flatten_nil, List.append_nil, List.cons_append, List.nil_append]
  after_results
  rfl

/-- The result as the run leaves it: the array with its leading axis split in two. -/
theorem tail_v2 (c : Dev nD) : Pipeline.afterTail₀ cfgs (dats m) 0 (V0 m) [hostOps1] c main_v2
    = shapeCast S2x512x12288 (arr m c) shapeCasts_S1024x12288_S2x512x12288 := by
  unfold Pipeline.afterTail₀
  have h : Pipeline.withArrays (cfgs 0).spec c (V0 m c) (fun w => (dats m 0 c).arrAt w (cfgs 0).N) (Proc.devRef .tc main_v1) = arr m c :=
    (Pipeline.withArrays_arr spec0 launch0.win.arr_inj c (V0 m c) (fun w => (dats m 0 c).arrAt w cfg0.N) 5).trans (arrAt_5 m c)
  simp only [hostOps1, List.flatten_cons, List.flatten_nil, List.append_nil, List.cons_append, List.nil_append]
  after_results
  rw [h]
  rfl

end Cert.KernelIdeal.Val

end
-- ==== Proof.Ref.lean ====
/- The reference read at an index: the same levels, the same dequantised weight, the same sums as the kernel's. -/
module

public import proofs.«01_k».proof.Proof.Block
public import proofs.«01_k».proof.Proof.Gen.ReferenceIdeal.Read

@[expose] public section

set_option maxRecDepth 16384

noncomputable section

open Idealize.ShloMosaic Idealize.ShloMosaic.TcCoe Idealize.SL.Sem

namespace Cert.Nf4

/-- Entry `(b, s, n)` of the result: row `(b, s)` of `x` against column `n` of the dequantised weight, plus twice the row of
    `x · A` against the column of `B`. -/
def out (x : (⟨3, ![2, 512, 9600]⟩ : Shape).Idx → EReal) (wp : (⟨2, ![4800, 12288]⟩ : Shape).Idx → BitVec 8)
    (sc : (⟨2, ![150, 12288]⟩ : Shape).Idx → EReal) (A : (⟨2, ![9600, 16]⟩ : Shape).Idx → EReal)
    (B : (⟨2, ![16, 12288]⟩ : Shape).Idx → EReal) (b : Fin 2) (s : Fin 512) (n : Fin 12288) : EReal :=
  (∑ k : Fin 9600, x (ValueIdx.ix3 b s k) * deq wp sc k n)
    + Ideal.ofBits .f32 0x40000000#32 * ∑ q : Fin 16, (∑ k : Fin 9600, x (ValueIdx.ix3 b s k) * A (ValueIdx.ix2 k q)) * B (ValueIdx.ix2 q n)

/-- A sum over the 9600 rows is the sum over the first 4800 plus the sum over the last 4800. -/
theorem sum_halves (f : Fin 9600 → EReal) :
    ∑ k : Fin 9600, f k = (∑ k : Fin 4800, f ⟨k.val, by omega⟩) + ∑ k : Fin 4800, f ⟨4800 + k.val, by omega⟩ :=
  Fin.sum_univ_add (a := 4800) (b := 4800) f

end Cert.Nf4

namespace Cert.ReferenceIdeal.Val

open Cert.ReferenceIdeal Cert.ReferenceIdeal.Read Cert.Nf4

variable (x0 : (⟨S2x512x9600, .bf16⟩ : BufTy).Contents (Elt Ideal)) (x1 : (⟨S4800x12288, .i8⟩ : BufTy).Contents (Elt Ideal))
  (x2 : (⟨S150x12288, .f32⟩ : BufTy).Contents (Elt Ideal)) (x3 : (⟨S9600x16, .bf16⟩ : BufTy).Contents (Elt Ideal))
  (x4 : (⟨S16x12288, .bf16⟩ : BufTy).Contents (Elt Ideal))

/-- The low nibbles' select tree is the level of the low nibble. -/
theorem lo_level (i : S4800x12288.Idx) : val_main_v36 (F := Ideal) x1 i = levelLo (x1 i) := by
  refine Eq.trans ?_ (level_lo (x1 i))
  have e : val_main_v2 (F := Ideal) x1 i = IntOp.andi ((x1 i).setWidth 32) 15#32 := by
    rw [val_main_v2_apply, val_main_v1_apply, val_main_c_apply, val_main_v0_apply]
  rw [← e]
  simp only [val_main_v6_apply, val_main_v7_apply, val_main_v8_apply, val_main_v9_apply, val_main_v10_apply,
    val_main_v11_apply, val_main_v12_apply, val_main_v13_apply, val_main_v14_apply, val_main_v15_apply,
    val_main_v16_apply, val_main_v17_apply, val_main_v18_apply, val_main_v19_apply, val_main_v20_apply,
    val_main_v21_apply, val_main_v22_apply, val_main_v23_apply, val_main_v24_apply, val_main_v25_apply,
    val_main_v26_apply, val_main_v27_apply, val_main_v28_apply, val_main_v29_apply, val_main_v30_apply,
    val_main_v31_apply, val_main_v32_apply, val_main_v33_apply, val_main_v34_apply, val_main_v35_apply,
    val_main_v36_apply, val_main_call0_v0_apply, val_main_call0_v1_apply, val_main_call1_v0_apply,
    val_main_call1_v1_apply, val_main_call2_v0_apply, val_main_call2_v1_apply, val_main_call3_v0_apply,
    val_main_call3_v1_apply, val_main_call4_v0_apply, val_main_call4_v1_apply, val_main_call5_v0_apply,
    val_main_call5_v1_apply, val_main_call6_v0_apply, val_main_call6_v1_apply, val_main_call7_v0_apply,
    val_main_call7_v1_apply, val_main_c_1_apply, val_main_c_2_apply, val_main_c_18_apply, val_main_c_19_apply,
    val_main_c_20_apply, val_main_c_21_apply, val_main_c_22_apply, val_main_c_23_apply, val_main_cst_apply,
    val_main_cst_3_apply, val_main_cst_4_apply, val_main_cst_5_apply, val_main_cst_6_apply, val_main_cst_7_apply,
    val_main_cst_8_apply, val_main_cst_9_apply, val_main_cst_10_apply, val_main_cst_11_apply, val_main_cst_12_apply,
    val_main_cst_13_apply, val_main_cst_14_apply, val_main_cst_15_apply, val_main_cst_16_apply, val_main_cst_17_apply]
  rfl

/-- The high nibbles' select tree is the level of the high nibble. -/
theorem hi_level (i : S4800x12288.Idx) : val_main_v74 (F := Ideal) x1 i = levelHi (x1 i) := by
  refine Eq.trans ?_ (level_hi (x1 i))
  have e : val_main_v4 (F := Ideal) x1 i = IntOp.shrsi .host ((x1 i).setWidth 32) 4#32 := by
    rw [val_main_v4_apply, val_main_v3_apply, val_main_c_0_apply, val_main_v0_apply]
  rw [← e]
  simp only [val_main_v44_apply, val_main_v45_apply, val_main_v46_apply, val_main_v47_apply, val_main_v48_apply,
    val_main_v49_apply, val_main_v50_apply, val_main_v51_apply, val_main_v52_apply, val_main_v53_apply,
    val_main_v54_apply, val_main_v55_apply, val_main_v56_apply, val_main_v57_apply, val_main_v58_apply,
    val_main_v59_apply, val_main_v60_apply, val_main_v61_apply, val_main_v62_apply, val_main_v63_apply,
    val_main_v64_apply, val_main_v65_apply, val_main_v66_apply, val_main_v67_apply, val_main_v68_apply,
    val_main_v69_apply, val_main_v70_apply, val_main_v71_apply, val_main_v72_apply, val_main_v73_apply,
    val_main_v74_apply, val_main_call15_v0_apply, val_main_call15_v1_apply, val_main_call16_v0_apply,
    val_main_call16_v1_apply, val_main_call17_v0_apply, val_main_call17_v1_apply, val_main_call18_v0_apply,
    val_main_call18_v1_apply, val_main_call19_v0_apply, val_main_call19_v1_apply, val_main_call20_v0_apply,
    val_main_call20_v1_apply, val_main_call21_v0_apply, val_main_call21_v1_apply, val_main_call22_v0_apply,
    val_main_call22_v1_apply, val_main_c_24_apply, val_main_c_25_apply, val_main_c_42_apply, val_main_c_43_apply,
    val_main_c_44_apply, val_main_c_45_apply, val_main_c_46_apply, val_main_c_47_apply, val_main_cst_26_apply,
    val_main_cst_27_apply, val_main_cst_28_apply, val_main_cst_29_apply, val_main_cst_30_apply, val_main_cst_31_apply,
    val_main_cst_32_apply, val_main_cst_33_apply, val_main_cst_34_apply, val_main_cst_35_apply, val_main_cst_36_apply,
    val_main_cst_37_apply, val_main_cst_38_apply, val_main_cst_39_apply, val_main_cst_40_apply, val_main_cst_41_apply]
  rfl

/-- The reference's low half of the weight is the dequantised weight's rows below 4800. -/
theorem lo_deq (i : S4800x12288.Idx) (r : Fin 9600) (n : Fin 12288) (h0 : (i 0).val = r.val) (h1 : (i 1).val = n.val) :
    val_main_v42 (F := Ideal) x1 x2 i = deq (N := 12288) x1 x2 r n := by
  rw [val_main_v42_apply, val_main_v41_apply, val_main_v37_apply, lo_level, val_main_v40_apply, val_main_v39_apply,
    val_main_v38_apply, val_main_v5_apply]
  have b0 : (i 0).val < 4800 := (i 0).isLt
  have b1 : (i 1).val < 12288 := (i 1).isLt
  refine Eq.symm (deq_lo (N := 12288) x1 x2 r n _ _ ?_ ?_ ?_ ?_)
  · show ((((i 0).val * 12288 + (i 1).val) / 786432 * 64 + ((i 0).val * 12288 + (i 1).val) / 12288 % 64) * 12288 + ((i 0).val * 12288 + (i 1).val) % 12288) / 12288 = r.val
    omega
  · show ((((i 0).val * 12288 + (i 1).val) / 786432 * 64 + ((i 0).val * 12288 + (i 1).val) / 12288 % 64) * 12288 + ((i 0).val * 12288 + (i 1).val) % 12288) % 12288 = n.val
    omega
  · show ((i 0).val * 12288 + (i 1).val) / 786432 = r.val / 64
    omega
  · show ((i 0).val * 12288 + (i 1).val) % 12288 = n.val
    omega

/-- The reference's high half of the weight is the dequantised weight's rows from 4800 on. -/
theorem hi_deq (i : S4800x12288.Idx) (r : Fin 9600) (n : Fin 12288) (h0 : (i 0).val + 4800 = r.val) (h1 : (i 1).val = n.val) :
    val_main_v80 (F := Ideal) x1 x2 i = deq (N := 12288) x1 x2 r n := by
  rw [val_main_v80_apply, val_main_v79_apply, val_main_v75_apply, hi_level, val_main_v78_apply, val_main_v77_apply,
    val_main_v76_apply, val_main_v43_apply]
  have b0 : (i 0).val < 4800 := (i 0).isLt
  have b1 : (i 1).val < 12288 := (i 1).isLt
  refine Eq.symm (deq_hi (N := 12288) x1 x2 r n _ _ ?_ ?_ ?_ ?_)
  · show ((((i 0).val * 12288 + (i 1).val) / 786432 * 64 + ((i 0).val * 12288 + (i 1).val) / 12288 % 64) * 12288 + ((i 0).val * 12288 + (i 1).val) % 12288) / 12288 + 4800 = r.val
    omega
  · show ((((i 0).val * 12288 + (i 1).val) / 786432 * 64 + ((i 0).val * 12288 + (i 1).val) / 12288 % 64) * 12288 + ((i 0).val * 12288 + (i 1).val) % 12288) % 12288 = n.val
    omega
  · show 75 + ((i 0).val * 12288 + (i 1).val) / 786432 = r.val / 64
    omega
  · show ((i 0).val * 12288 + (i 1).val) % 12288 = n.val
    omega

/-- An index of `x` with the coordinates `b`, `s`, `k`. -/
theorem ix3_of (j : S2x512x9600.Idx) (b : Fin 2) (s : Fin 512) (k : Fin 9600) (h0 : (j 0).val = b.val) (h1 : (j 1).val = s.val)
    (h2 : (j 2).val = k.val) : j = ValueIdx.ix3 b s k :=
  funext fun a => Fin.ext (by
    match a with
    | ⟨0, _⟩ => exact h0
    | ⟨1, _⟩ => exact h1
    | ⟨2, _⟩ => exact h2)

/-- An index of `A` with the coordinates `k`, `q`. -/
theorem ix2_A (j : S9600x16.Idx) (k : Fin 9600) (q : Fin 16) (h0 : (j 0).val = k.val) (h1 : (j 1).val = q.val) : j = ValueIdx.ix2 k q :=
  funext fun a => Fin.ext (by
    match a with
    | ⟨0, _⟩ => exact h0
    | ⟨1, _⟩ => exact h1)

/-- An index of `B` with the coordinates `q`, `n`. -/
theorem ix2_B (j : S16x12288.Idx) (q : Fin 16) (n : Fin 12288) (h0 : (j 0).val = q.val) (h1 : (j 1).val = n.val) : j = ValueIdx.ix2 q n :=
  funext fun a => Fin.ext (by
    match a with
    | ⟨0, _⟩ => exact h0
    | ⟨1, _⟩ => exact h1)

/-- The reference's two products over the weight's halves add up to the product over the whole weight. -/
theorem base_apply (i : S2x512x12288.Idx) (b : Fin 2) (s : Fin 512) (n : Fin 12288) (h0 : (i 0).val = b.val) (h1 : (i 1).val = s.val)
    (h2 : (i 2).val = n.val) :
    val_main_v85 (F := Ideal) x0 x1 x2 i = ∑ k : Fin 9600, x0 (ValueIdx.ix3 b s k) * deq (N := 12288) x1 x2 k n := by
  rw [sum_halves, val_main_v85_apply, val_main_v82_apply, val_main_v84_apply]
  refine congrArg₂ (fun a b : EReal => a + b) (Finset.sum_congr rfl fun k _ => ?_) (Finset.sum_congr rfl fun k _ => ?_)
  · rw [val_main_v81_apply, lo_deq x1 x2 _ ⟨k.val, by omega⟩ n rfl h2]
    exact congrArg (· * _) (congrArg x0 (ix3_of _ b s _ h0 h1 rfl))
  · rw [val_main_v83_apply, hi_deq x1 x2 _ ⟨4800 + k.val, by omega⟩ n (Nat.add_comm _ _) h2]
    exact congrArg (· * _) (congrArg x0 (ix3_of _ b s _ h0 h1 rfl))

/-- The reference's `bf16(x · A)` against `B`. -/
theorem lora_apply (i : S2x512x12288.Idx) (b : Fin 2) (s : Fin 512) (n : Fin 12288) (h0 : (i 0).val = b.val) (h1 : (i 1).val = s.val)
    (h2 : (i 2).val = n.val) :
    val_main_v88 (F := Ideal) x0 x3 x4 i
      = ∑ q : Fin 16, (∑ k : Fin 9600, x0 (ValueIdx.ix3 b s k) * x3 (ValueIdx.ix2 k q)) * x4 (ValueIdx.ix2 q n) := by
  rw [val_main_v88_apply]
  refine Finset.sum_congr rfl fun q _ => ?_
  rw [val_main_v87_apply, val_main_v86_apply]
  refine congrArg₂ (fun a b : EReal => a * b) (Finset.sum_congr rfl fun k _ => ?_) (congrArg x4 (ix2_B _ q n rfl h2))
  exact congrArg₂ (fun a b : EReal => a * b) (congrArg x0 (ix3_of _ b s k h0 h1 rfl)) (congrArg x3 (ix2_A _ k q rfl rfl))

/-- THE REFERENCE AT AN INDEX: the result's entry. -/
theorem ref_apply (i : S2x512x12288.Idx) (b : Fin 2) (s : Fin 512) (n : Fin 12288) (h0 : (i 0).val = b.val) (h1 : (i 1).val = s.val)
    (h2 : (i 2).val = n.val) : val_main_v92 (F := Ideal) x0 x1 x2 x3 x4 i = out x0 x1 x2 x3 x4 b s n := by
  rw [val_main_v92_apply, val_main_v91_apply, base_apply x0 x1 x2 i b s n h0 h1 h2, val_main_v90_apply, val_main_v89_apply,
    val_main_cst_48_apply, lora_apply x0 x3 x4 i b s n h0 h1 h2]
  rfl

end Cert.ReferenceIdeal.Val

end
-- ==== Proof.Tie.lean ====
/- The kernel and the reference, each run from its own memory, leave the same result: both are `out` of the arguments. -/
module

public import proofs.«01_k».proof.Proof.Host
public import proofs.«01_k».proof.Proof.Ref

@[expose] public section

set_option maxRecDepth 16384

noncomputable section

open Idealize.ShloMosaic Idealize.ShloMosaic.TcCoe Idealize.SL.Sem

namespace Cert.KernelIdeal.Val

open Cert.KernelIdeal Cert.KernelIdeal.Gen Cert.Nf4

variable (m : (ℓ : Loc nD τ sig) → Buf (Elt Ideal) ℓ)

/-- Row `512 b + s` of the kernel's first operand is row `(b, s)` of the argument. -/
theorem x_row (c : Dev nD) (r : Fin 1024) (b : Fin 2) (s : Fin 512) (hr : r.val = b.val * 512 + s.val) (k : Fin 9600) :
    V m c main_v0 (ValueIdx.ix2 r k) = m ((c : Thread nD τ).loc main_arg0) (ValueIdx.ix3 b s k) := by
  rw [V_main_v0]
  refine shapeCast_apply (s := S2x512x9600) (t := S1024x9600) _ _ _ _ ?_
  rw [Shape.rowMajor_val_two, Shape.rowMajor_val_three]
  show (b.val * 512 + s.val) * 9600 + k.val = r.val * 9600 + k.val
  rw [hr]

/-- THE KERNEL AT AN INDEX: the result's entry. -/
theorem ker_apply (c : Dev nD) (i : S2x512x12288.Idx) :
    shapeCast S2x512x12288 (arr m c) shapeCasts_S1024x12288_S2x512x12288 i
      = out (m ((c : Thread nD τ).loc main_arg0)) (m ((c : Thread nD τ).loc main_arg1)) (m ((c : Thread nD τ).loc main_arg2))
          (m ((c : Thread nD τ).loc main_arg3)) (m ((c : Thread nD τ).loc main_arg4)) (i 0) (i 1) (i 2) := by
  have b0 : (i 0).val < 2 := (i 0).isLt
  have b1 : (i 1).val < 512 := (i 1).isLt
  have hr : (i 0).val * 512 + (i 1).val < 1024 := by omega
  rw [shapeCast_apply (s := S1024x12288) (t := S2x512x12288) (arr m c) shapeCasts_S1024x12288_S2x512x12288 i
    (ValueIdx.ix2 (⟨(i 0).val * 512 + (i 1).val, hr⟩ : Fin 1024) (i 2 : Fin 12288)) (by
      rw [Shape.rowMajor_val_two, Shape.rowMajor_val_three]
      rfl)]
  show res (N := 12288) (V m c main_v0) (V m c main_arg1) (V m c main_arg2) (V m c main_arg3) (V m c main_arg4)
    (⟨(i 0).val * 512 + (i 1).val, hr⟩ : Fin 1024) (i 2) = _
  unfold res out
  rw [V_main_arg1, V_main_arg2, V_main_arg3, V_main_arg4]
  simp only [x_row m c ⟨(i 0).val * 512 + (i 1).val, hr⟩ (i 0) (i 1) rfl]

/-- THE KERNEL'S RUN: it terminates with the result at `out` of the arguments, and the arguments unchanged. -/
theorem run (ρ : Dev nD → PrngReg) (v : (c : Dev nD) → Buf (Elt Ideal) ((c : Thread nD τ).loc main_v2))
    (hv : ∀ c, v c = shapeCast S2x512x12288 (arr m c) shapeCasts_S1024x12288_S2x512x12288) :
    θ_run defs (onTc (τ := τ) (main (F := Ideal))) ⟨m, fun _ => 0, ρ⟩ (fun r => ∀ c : Dev nD,
      r.2.mem ((c.tc : Thread nD τ).loc main_v2) = v c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h.1 c).2 main_v2 (Pipeline.mem_restRefs_of main_v2 (by decide) (by decide))).trans ((tail_v2 m c).trans (hv c).symm), h.2 c⟩)
    (θ_run_and (run_main m ρ) (unchanged m ρ))

end Cert.KernelIdeal.Val

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Tie
public import Idealize.ShloMosaic.Adequacy
public import Idealize.ShloMosaic.Init

@[expose] public section

noncomputable section

namespace Cert.Proof

open Idealize.ShloMosaic Idealize.SL.Sem Cert.Kernel

/-- The reference runs to the end with its arguments unchanged; it declares no semaphore, so every counter is zero. -/
theorem frame_reference : Cert.quiescent_ReferenceIdeal (hReferenceIdeal := Cert.ReferenceIdeal.Gen.facts) := fun m ρ _ =>
  (θ_run _ _ _).mono (fun r h => ⟨fun c => (h c).2, sem_eq_zero_of_no_sems (by decide) r.2⟩) (Cert.ReferenceIdeal.Value.run (F := Ideal) m ρ)

/-- From memories agreeing on the arguments, the kernel and the reference leave the same result. -/
theorem same_result : Cert.algebraic_KernelIdeal_ReferenceIdeal (hKernelIdeal := Cert.KernelIdeal.Gen.facts)
    (hReferenceIdeal := Cert.ReferenceIdeal.Gen.facts) := fun m ρ m' ρ' _ hm =>
  ⟨fun c => shapeCast Cert.KernelIdeal.S2x512x12288 (Cert.KernelIdeal.Val.arr m c) Cert.KernelIdeal.Gen.facts.shapeCasts_S1024x12288_S2x512x12288,
    Cert.KernelIdeal.Val.run m ρ _ fun _ => rfl,
    (θ_run _ _ _).mono (fun r h c => ⟨(h c).1.trans (by
      obtain ⟨h0, h1, h2, h3, h4⟩ := hm c
      rw [Cert.ReferenceIdeal.Read.val_main_v92_eq, h0, h1, h2, h3, h4]
      funext i
      exact (Cert.ReferenceIdeal.Val.ref_apply _ _ _ _ _ i (i 0) (i 1) (i 2) rfl rfl rfl).trans (Cert.KernelIdeal.Val.ker_apply m c i).symm), (h c).2⟩)
      (Cert.ReferenceIdeal.Value.run (F := Ideal) m' ρ')⟩

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_reference, trivial, same_result⟩

end Cert.Proof

end
